-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512 : Shape := ⟨2, ![128, 512]⟩
abbrev S128x1024x1024 : Shape := ⟨3, ![128, 1024, 1024]⟩
abbrev S128x1 : Shape := ⟨2, ![128, 1]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1024x1 : Shape := ⟨2, ![1024, 1]⟩
abbrev S2x1024 : Shape := ⟨2, ![2, 1024]⟩
abbrev S2 : Shape := ⟨1, ![2]⟩
abbrev S1x2 : Shape := ⟨2, ![1, 2]⟩
abbrev S1x1 : Shape := ⟨2, ![1, 1]⟩
abbrev S128x1x1 : Shape := ⟨3, ![128, 1, 1]⟩
abbrev S128x1x1024 : Shape := ⟨3, ![128, 1, 1024]⟩
abbrev S2x1024x1024 : Shape := ⟨3, ![2, 1024, 1024]⟩
abbrev S2x1x1 : Shape := ⟨3, ![2, 1, 1]⟩
abbrev S2x1x1024 : Shape := ⟨3, ![2, 1, 1024]⟩
abbrev S64x2x1024 : Shape := ⟨3, ![64, 2, 1024]⟩
abbrev S128x1024 : Shape := ⟨2, ![128, 1024]⟩
abbrev S1x2x1024 : Shape := ⟨3, ![1, 2, 1024]⟩
abbrev S1x1024x1024 : Shape := ⟨3, ![1, 1024, 1024]⟩
abbrev S2x2 : Shape := ⟨2, ![2, 2]⟩
abbrev S2x1 : Shape := ⟨2, ![2, 1]⟩

abbrev nBuf : Space → Nat
  | .hbm => 31
  | .vmem => 32
  | .smem => 0
  | _ => 0

abbrev bufTy : (tb : Table) → Fin (tcTables nBuf tb) → BufTy
  | .hbm, ⟨0, _⟩ => ⟨S128x512, .f32⟩
  | .hbm, ⟨1, _⟩ => ⟨S128x1024x1024, .f32⟩
  | .hbm, ⟨2, _⟩ => ⟨S128x1, .f32⟩
  | .hbm, ⟨3, _⟩ => ⟨S1024x512, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1, .f32⟩
  | .hbm, ⟨11, _⟩ => ⟨S1024x1, .f32⟩
  | .hbm, ⟨12, _⟩ => ⟨S1024, .f32⟩
  | .hbm, ⟨13, _⟩ => ⟨S2x1024, .f32⟩
  | .hbm, ⟨14, _⟩ => ⟨S2, .f32⟩
  | .hbm, ⟨15, _⟩ => ⟨S1024x1024, .f32⟩
  | .hbm, ⟨16, _⟩ => ⟨S1x1024, .f32⟩
  | .hbm, ⟨17, _⟩ => ⟨S1, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x2, .f32⟩
  | .hbm, ⟨24, _⟩ => ⟨S1x1, .f32⟩
  | .hbm, ⟨25, _⟩ => ⟨S1x1, .f32⟩
  | .hbm, ⟨26, _⟩ => ⟨S128x1x1, .f32⟩
  | .hbm, ⟨27, _⟩ => ⟨S128x1x1, .f32⟩
  | .hbm, ⟨28, _⟩ => ⟨S128x1x1, .f32⟩
  | .hbm, ⟨29, _⟩ => ⟨S128x1024x1024, .f32⟩
  | .hbm, ⟨30, _⟩ => ⟨S128x1x1024, .f32⟩
  | .local _ .vmem, ⟨0, _⟩ => ⟨S2x1024x1024, .f32⟩
  | .local _ .vmem, ⟨1, _⟩ => ⟨S2x1024x1024, .f32⟩
  | .local _ .vmem, ⟨2, _⟩ => ⟨S128x512, .f32⟩
  | .local _ .vmem, ⟨3, _⟩ => ⟨S128x1, .f32⟩
  | .local _ .vmem, ⟨4, _⟩ => ⟨S1024x512, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S2x1024, .f32⟩
  | .local _ .vmem, ⟨14, _⟩ => ⟨S1x2, .f32⟩
  | .local _ .vmem, ⟨15, _⟩ => ⟨S1x1024, .f32⟩
  | .local _ .vmem, ⟨16, _⟩ => ⟨S1x1, .f32⟩
  | .local _ .vmem, ⟨17, _⟩ => ⟨S1x1024, .f32⟩
  | .local _ .vmem, ⟨18, _⟩ => ⟨S1x1, .f32⟩
  | .local _ .vmem, ⟨19, _⟩ => ⟨S2x1x1, .f32⟩
  | .local _ .vmem, ⟨20, _⟩ => ⟨S2x1x1, .f32⟩
  | .local _ .vmem, ⟨21, _⟩ => ⟨S2x1x1, .f32⟩
  | .local _ .vmem, ⟨22, _⟩ => ⟨S2x1x1, .f32⟩
  | .local _ .vmem, ⟨23, _⟩ => ⟨S2x1x1, .f32⟩
  | .local _ .vmem, ⟨24, _⟩ => ⟨S2x1x1, .f32⟩
  | .local _ .vmem, ⟨25, _⟩ => ⟨S2x1024x1024, .f32⟩
  | .local _ .vmem, ⟨26, _⟩ => ⟨S2x1024x1024, .f32⟩
  | .local _ .vmem, ⟨27, _⟩ => ⟨S2x1x1024, .f32⟩
  | .local _ .vmem, ⟨28, _⟩ => ⟨S2x1x1024, .f32⟩
  | .local _ .vmem, ⟨29, _⟩ => ⟨S64x2x1024, .f32⟩
  | .local _ .vmem, ⟨30, _⟩ => ⟨S64x2x1024, .f32⟩
  | .local _ .vmem, ⟨31, _⟩ => ⟨S64x2x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v8_3 : Ref sig .tc := ⟨.hbm, 29, rfl⟩
abbrev main_v8_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let v4 : Index := Scalar.indexCast arg0
  let c0_2 : Index := 0#32
  let c0_3 : Index := 0#32
  ![v4.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x1x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1024x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S128x512 : Shape := ⟨2, ![128, 512]⟩
abbrev S128x1024x1024 : Shape := ⟨3, ![128, 1024, 1024]⟩
abbrev S128x1 : Shape := ⟨2, ![128, 1]⟩
abbrev S1024x512 : Shape := ⟨2, ![1024, 512]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1024x1 : Shape := ⟨2, ![1024, 1]⟩
abbrev S2x1024 : Shape := ⟨2, ![2, 1024]⟩
abbrev S2 : Shape := ⟨1, ![2]⟩
abbrev S512x1024 : Shape := ⟨2, ![512, 1024]⟩
abbrev S128x1024 : Shape := ⟨2, ![128, 1024]⟩
abbrev S1x1024x1024 : Shape := ⟨3, ![1, 1024, 1024]⟩
abbrev S1024x2 : Shape := ⟨2, ![1024, 2]⟩
abbrev S128x2 : Shape := ⟨2, ![128, 2]⟩
abbrev S1x2 : Shape := ⟨2, ![1, 2]⟩
abbrev S128 : Shape := ⟨1, ![128]⟩
abbrev S128x1x1 : Shape := ⟨3, ![128, 1, 1]⟩
abbrev S1x1 : Shape := ⟨2, ![1, 1]⟩
abbrev S_ : Shape := ⟨0, ![]⟩
abbrev S128x1024x1 : Shape := ⟨3, ![128, 1024, 1]⟩
abbrev S128x1x1024 : Shape := ⟨3, ![128, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x1024x1024, .f32⟩
  | .hbm, ⟨2, _⟩ => ⟨S128x1, .f32⟩
  | .hbm, ⟨3, _⟩ => ⟨S1024x512, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1, .f32⟩
  | .hbm, ⟨11, _⟩ => ⟨S1024x1, .f32⟩
  | .hbm, ⟨12, _⟩ => ⟨S1024, .f32⟩
  | .hbm, ⟨13, _⟩ => ⟨S2x1024, .f32⟩
  | .hbm, ⟨14, _⟩ => ⟨S2, .f32⟩
  | .hbm, ⟨15, _⟩ => ⟨S1024x1024, .f32⟩
  | .hbm, ⟨16, _⟩ => ⟨S1x1024, .f32⟩
  | .hbm, ⟨17, _⟩ => ⟨S1, .f32⟩
  | .hbm, ⟨18, _⟩ => ⟨S512x1024, .f32⟩
  | .hbm, ⟨19, _⟩ => ⟨S128x1024, .f32⟩
  | .hbm, ⟨20, _⟩ => ⟨S1x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S1024x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S1x1024x1024, .f32⟩
  | .hbm, ⟨30, _⟩ => ⟨S128x1024x1024, .f32⟩
  | .hbm, ⟨31, _⟩ => ⟨S128x1024x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S1x1024, .f32⟩
  | .hbm, ⟨36, _⟩ => ⟨S128x1024, .f32⟩
  | .hbm, ⟨37, _⟩ => ⟨S1x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S1024x1024, .f32⟩
  | .hbm, ⟨42, _⟩ => ⟨S128x1024, .f32⟩
  | .hbm, ⟨43, _⟩ => ⟨S1x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S1024x2, .f32⟩
  | .hbm, ⟨48, _⟩ => ⟨S128x2, .f32⟩
  | .hbm, ⟨49, _⟩ => ⟨S1x2, .f32⟩
  | .hbm, ⟨50, _⟩ => ⟨S128x2, .f32⟩
  | .hbm, ⟨51, _⟩ => ⟨S128x2, .f32⟩
  | .hbm, ⟨52, _⟩ => ⟨S128x2, .f32⟩
  | .hbm, ⟨53, _⟩ => ⟨S128x1, .f32⟩
  | .hbm, ⟨54, _⟩ => ⟨S128, .f32⟩
  | .hbm, ⟨55, _⟩ => ⟨S128x1, .f32⟩
  | .hbm, ⟨56, _⟩ => ⟨S128, .f32⟩
  | .hbm, ⟨57, _⟩ => ⟨S128, .f32⟩
  | .hbm, ⟨58, _⟩ => ⟨S128x1x1, .f32⟩
  | .hbm, ⟨59, _⟩ => ⟨S1024x1, .f32⟩
  | .hbm, ⟨60, _⟩ => ⟨S128x1, .f32⟩
  | .hbm, ⟨61, _⟩ => ⟨S1x1, .f32⟩
  | .hbm, ⟨62, _⟩ => ⟨S128x1, .f32⟩
  | .hbm, ⟨63, _⟩ => ⟨S128x1, .f32⟩
  | .hbm, ⟨64, _⟩ => ⟨S128x1, .f32⟩
  | .hbm, ⟨65, _⟩ => ⟨S128x1, .f32⟩
  | .hbm, ⟨66, _⟩ => ⟨S_, .f32⟩
  | .hbm, ⟨67, _⟩ => ⟨S128x1, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S1024x1, .f32⟩
  | .hbm, ⟨73, _⟩ => ⟨S128x1, .f32⟩
  | .hbm, ⟨74, _⟩ => ⟨S1x1, .f32⟩
  | .hbm, ⟨75, _⟩ => ⟨S128x1, .f32⟩
  | .hbm, ⟨76, _⟩ => ⟨S128x1, .f32⟩
  | .hbm, ⟨77, _⟩ => ⟨S128x1024x1, .f32⟩
  | .hbm, ⟨78, _⟩ => ⟨S128x1x1024, .f32⟩
  | .hbm, ⟨79, _⟩ => ⟨S128x1024x1024, .f32⟩
  | .hbm, ⟨80, _⟩ => ⟨S128x1024x1024, .f32⟩
  | .hbm, ⟨81, _⟩ => ⟨S128x1024x1024, .f32⟩
  | .hbm, ⟨82, _⟩ => ⟨S128x1024x1024, .f32⟩
  | .hbm, ⟨83, _⟩ => ⟨S_, .f32⟩
  | .hbm, ⟨84, _⟩ => ⟨S128x1024x1024, .f32⟩
  | .hbm, ⟨85, _⟩ => ⟨S128x1024x1024, .f32⟩
  | .hbm, ⟨86, _⟩ => ⟨S128x1024x1024, .f32⟩
  | .hbm, ⟨87, _⟩ => ⟨S128x1024x1024, .f32⟩
  | .hbm, ⟨88, _⟩ => ⟨S128x1024x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S128x1024x1024, .f32⟩
  | .hbm, ⟨93, _⟩ => ⟨S128x1024x1024, .f32⟩
  | .hbm, ⟨94, _⟩ => ⟨S_, .f32⟩
  | .hbm, ⟨95, _⟩ => ⟨S128x1024x1024, .f32⟩
  | .hbm, ⟨96, _⟩ => ⟨S128x1024x1024, .f32⟩
  | .hbm, ⟨97, _⟩ => ⟨S128x1x1, .f32⟩
  | .hbm, ⟨98, _⟩ => ⟨S128x1x1, .f32⟩
  | .hbm, ⟨99, _⟩ => ⟨S128x1x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_cst_0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_1 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_2 : Ref sig .tc := ⟨.hbm, 89, rfl⟩
abbrev main_cst_3 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Proof.K.Model.lean ====
module

public import Idealize.ShloMosaic.Lib.Pointwise

/-!
The mathematics of one step of the network, over the extended reals and at plain indices: no tiles, no blocks,
no order of evaluation. `Net` holds the eighteen arrays; the definitions after it are the stages of the step. The kernel's
five result arrays (Arrays) and the reference's five results (RefResults) are both shown to be these functions.
-/

@[expose] public section

noncomputable section

namespace Cert.Model

open Idealize.ShloMosaic

/-- The arrays of one step: 128 samples, 512 item features, 1024 hidden units, one plastic matrix per sample. -/
structure Net where
  items : Fin 128 → Fin 512 → EReal
  plastic : Fin 128 → Fin 1024 → Fin 1024 → EReal
  reward : Fin 128 → EReal
  W1 : Fin 1024 → Fin 512 → EReal
  b1 : Fin 1024 → EReal
  W2 : Fin 1024 → Fin 1024 → EReal
  b2 : Fin 1024 → EReal
  W3 : Fin 1024 → Fin 1024 → EReal
  b3 : Fin 1024 → EReal
  Wc : Fin 1024 → EReal
  bc : EReal
  Wr : Fin 1024 → EReal
  br : Fin 1024 → EReal
  Wn : Fin 2 → Fin 1024 → EReal
  bn : Fin 2 → EReal
  alpha : Fin 1024 → Fin 1024 → EReal
  Wv : Fin 1024 → EReal
  bv : EReal

/-- The sample that sits at place `g` of pair `s`: the 128 samples as 64 pairs. -/
def row (s : Fin 64) (g : Fin 2) : Fin 128 := ⟨s.val * 2 + g.val, by omega⟩

/-- The gain of the plastic update, 10, as the f32 word both programs print. -/
abbrev gain : EReal := Ideal.ofBits .f32 0x41200000#32
/-- The lower bound of a plastic weight, -50. -/
abbrev lower : EReal := Ideal.ofBits .f32 0xC2480000#32
/-- The upper bound of a plastic weight, 50. -/
abbrev upper : EReal := Ideal.ofBits .f32 0x42480000#32

namespace Net

variable (N : Net)

/-- The item embedding `tanh (items · W1ᵀ + b1)`. -/
def emb (b : Fin 128) (k : Fin 1024) : EReal := Ideal.tanh ((∑ j, N.items b j * N.W1 k j) + N.b1 k)

/-- The fixed part of the hidden layer's input, `emb · W2ᵀ + b2`. -/
def cur (b : Fin 128) (k : Fin 1024) : EReal := (∑ j, N.emb b j * N.W2 k j) + N.b2 k

/-- The hidden layer's input: the fixed part plus the sample's own plastic matrix, scaled by `alpha`, on the embedding. -/
def pre (b : Fin 128) (k : Fin 1024) : EReal := N.cur b k + ∑ j, N.alpha k j * N.plastic b k j * N.emb b j

/-- The hidden layer. -/
def hidden (b : Fin 128) (k : Fin 1024) : EReal := Ideal.tanh (N.pre b k)

/-- The reward's embedding. -/
def rew (b : Fin 128) (k : Fin 1024) : EReal := N.reward b * N.Wr k + N.br k

/-- The modulating layer, on the hidden layer plus the reward's embedding. -/
def modul (b : Fin 128) (k : Fin 1024) : EReal := Ideal.tanh ((∑ j, (N.hidden b j + N.rew b j) * N.W3 k j) + N.b3 k)

/-- The two outputs of the modulating layer. -/
def nmOut (b : Fin 128) (o : Fin 2) : EReal := Ideal.tanh ((∑ j, N.modul b j * N.Wn o j) + N.bn o)

/-- The neuromodulator: the difference of the two outputs. -/
def nm (b : Fin 128) : EReal := N.nmOut b 0 - N.nmOut b 1

/-- The choice, a sigmoid of an affine function of the hidden layer. -/
def choice (b : Fin 128) : EReal := Ideal.logistic ((∑ j, N.hidden b j * N.Wc j) + N.bc)

/-- The value, an affine function of the hidden layer. -/
def value (b : Fin 128) : EReal := (∑ j, N.hidden b j * N.Wv j) + N.bv

/-- The updated plastic matrix: plus the modulated Hebbian trace, clipped to the bounds. -/
def plasticNext (b : Fin 128) (h i : Fin 1024) : EReal :=
  min upper (max lower (N.plastic b h i + N.nm b * (Ideal.tanh (N.pre b h * N.emb b i) * gain)))

end Net

end Cert.Model

end
-- ==== Proof.K.Windows.lean ====
module

public import proofs.«01_k».proof.Proof.Gen.KernelIdeal.Frame
public import Idealize.ShloMosaic.Lib.Pipeline.ValueKit
public import proofs.«01_k».proof.Proof.K.Model

/-!
What the kernel's windows hold at a grid point, as the model's arrays: window 0 is the point's pair of plastic matrices;
every other input window is a whole array, the biases and the single rows through the host's reshape.
-/

@[expose] public section

set_option maxRecDepth 16384

noncomputable section

namespace Cert.KernelIdeal.Meaning

open Cert.KernelIdeal Cert.KernelIdeal.Gen Cert.Model
open Idealize.ShloMosaic Idealize.ShloMosaic.TcCoe Idealize.SL.Sem

variable (m : (ℓ : Loc nD τ sig) → Buf (Elt Ideal) ℓ) (c : Dev nD)

/-- The model's arrays, read off the kernel's arguments. -/
def net : Model.Net where
  items b j := (show FVec Ideal S128x512 .f32 from m ((c : Thread nD τ).loc main_arg0)) (ix2 b j)
  plastic b h i := (show FVec Ideal S128x1024x1024 .f32 from m ((c : Thread nD τ).loc main_arg1)) (ix3 b h i)
  reward b := (show FVec Ideal S128x1 .f32 from m ((c : Thread nD τ).loc main_arg2)) (ix2 b 0)
  W1 k j := (show FVec Ideal S1024x512 .f32 from m ((c : Thread nD τ).loc main_arg3)) (ix2 k j)
  b1 k := (show FVec Ideal S1024 .f32 from m ((c : Thread nD τ).loc main_arg4)) (ix1 k)
  W2 k j := (show FVec Ideal S1024x1024 .f32 from m ((c : Thread nD τ).loc main_arg5)) (ix2 k j)
  b2 k := (show FVec Ideal S1024 .f32 from m ((c : Thread nD τ).loc main_arg6)) (ix1 k)
  W3 k j := (show FVec Ideal S1024x1024 .f32 from m ((c : Thread nD τ).loc main_arg7)) (ix2 k j)
  b3 k := (show FVec Ideal S1024 .f32 from m ((c : Thread nD τ).loc main_arg8)) (ix1 k)
  Wc k := (show FVec Ideal S1x1024 .f32 from m ((c : Thread nD τ).loc main_arg9)) (ix2 0 k)
  bc := (show FVec Ideal S1 .f32 from m ((c : Thread nD τ).loc main_arg10)) (ix1 0)
  Wr k := (show FVec Ideal S1024x1 .f32 from m ((c : Thread nD τ).loc main_arg11)) (ix2 k 0)
  br k := (show FVec Ideal S1024 .f32 from m ((c : Thread nD τ).loc main_arg12)) (ix1 k)
  Wn o k := (show FVec Ideal S2x1024 .f32 from m ((c : Thread nD τ).loc main_arg13)) (ix2 o k)
  bn o := (show FVec Ideal S2 .f32 from m ((c : Thread nD τ).loc main_arg14)) (ix1 o)
  alpha k j := (show FVec Ideal S1024x1024 .f32 from m ((c : Thread nD τ).loc main_arg15)) (ix2 k j)
  Wv k := (show FVec Ideal S1x1024 .f32 from m ((c : Thread nD τ).loc main_arg16)) (ix2 0 k)
  bv := (show FVec Ideal S1 .f32 from m ((c : Thread nD τ).loc main_arg17)) (ix1 0)

/-- The windows whose block moves with the grid point, decided: the plastic matrices and the five results. -/
theorem idx_moving : ∀ t : Fin cfg0.N, win0_0.index t = ![t.val, 0, 0] ∧ win0_18.index t = ![t.val, 0, 0]
    ∧ win0_19.index t = ![t.val, 0, 0] ∧ win0_20.index t = ![t.val, 0, 0] ∧ win0_21.index t = ![t.val, 0, 0]
    ∧ win0_22.index t = ![t.val, 0, 0] :=
  (by decide +kernel : ∀ t : Fin grid0.N, _)

/-- The windows whose block stays where it is at every point, decided: all others. -/
theorem idx_staying : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] ∧ win0_17.index t = ![0, 0] :=
  (by decide +kernel : ∀ t : Fin grid0.N, _)

variable (t : Fin cfg0.N)

/-- The point's number, as the number of a pair. -/
def pair : Fin 64 := ⟨t.val, lt_of_lt_of_eq t.isLt N_0⟩

/-- The plastic matrices' window holds the two matrices of the point's pair of samples. -/
theorem plastic_at (g : Fin 2) (h i : Fin 1024) :
    (show FVec Ideal S2x1024x1024 .f32 from iblk m c 0 t) (ix3 g h i) = (net m c).plastic (row (pair t) g) h i := by
  show _ = (show FVec Ideal S128x1024x1024 .f32 from m ((c : Thread nD τ).loc main_arg1)) (ix3 (row (pair t) g) h i)
  unfold row pair
  blk_point [iblk, V, idx_moving t]

/-- The items' window holds the whole array. -/
theorem items_at (b : Fin 128) (j : Fin 512) :
    (show FVec Ideal S128x512 .f32 from iblk m c 1 t) (ix2 b j) = (net m c).items b j := by
  show _ = (show FVec Ideal S128x512 .f32 from m ((c : Thread nD τ).loc main_arg0)) (ix2 b j)
  blk_point [iblk, V, idx_staying t]

/-- The rewards' window holds the whole array. -/
theorem reward_at (b : Fin 128) :
    (show FVec Ideal S128x1 .f32 from iblk m c 2 t) (ix2 b 0) = (net m c).reward b := by
  show _ = (show FVec Ideal S128x1 .f32 from m ((c : Thread nD τ).loc main_arg2)) (ix2 b 0)
  blk_point [iblk, V, idx_staying t]

/-- The window of the weights `W1` holds the whole array. -/
theorem W1_at (k : Fin 1024) (j : Fin 512) :
    (show FVec Ideal S1024x512 .f32 from iblk m c 3 t) (ix2 k j) = (net m c).W1 k j := by
  show _ = (show FVec Ideal S1024x512 .f32 from m ((c : Thread nD τ).loc main_arg3)) (ix2 k j)
  blk_point [iblk, V, idx_staying t]

/-- The window of the bias `b1`, which the host lays out as a row, holds it whole. -/
theorem b1_at (k : Fin 1024) :
    (show FVec Ideal S1x1024 .f32 from iblk m c 4 t) (ix2 0 k) = (net m c).b1 k := by
  show _ = (show FVec Ideal S1024 .f32 from m ((c : Thread nD τ).loc main_arg4)) (ix1 k)
  blk_point [iblk, idx_staying t]

/-- The window of the weights `W2` holds the whole array. -/
theorem W2_at (k j : Fin 1024) :
    (show FVec Ideal S1024x1024 .f32 from iblk m c 5 t) (ix2 k j) = (net m c).W2 k j := by
  show _ = (show FVec Ideal S1024x1024 .f32 from m ((c : Thread nD τ).loc main_arg5)) (ix2 k j)
  blk_point [iblk, V, idx_staying t]

/-- The window of the bias `b2`, which the host lays out as a row, holds it whole. -/
theorem b2_at (k : Fin 1024) :
    (show FVec Ideal S1x1024 .f32 from iblk m c 6 t) (ix2 0 k) = (net m c).b2 k := by
  show _ = (show FVec Ideal S1024 .f32 from m ((c : Thread nD τ).loc main_arg6)) (ix1 k)
  blk_point [iblk, idx_staying t]

/-- The window of `Wr`, which the host lays out as a row, holds it whole. -/
theorem Wr_at (k : Fin 1024) :
    (show FVec Ideal S1x1024 .f32 from iblk m c 7 t) (ix2 0 k) = (net m c).Wr k := by
  show _ = (show FVec Ideal S1024x1 .f32 from m ((c : Thread nD τ).loc main_arg11)) (ix2 k 0)
  blk_point [iblk, idx_staying t]

/-- The window of the bias `br`, which the host lays out as a row, holds it whole. -/
theorem br_at (k : Fin 1024) :
    (show FVec Ideal S1x1024 .f32 from iblk m c 8 t) (ix2 0 k) = (net m c).br k := by
  show _ = (show FVec Ideal S1024 .f32 from m ((c : Thread nD τ).loc main_arg12)) (ix1 k)
  blk_point [iblk, idx_staying t]

/-- The window of the scale `alpha` holds the whole array. -/
theorem alpha_at (k j : Fin 1024) :
    (show FVec Ideal S1024x1024 .f32 from iblk m c 9 t) (ix2 k j) = (net m c).alpha k j := by
  show _ = (show FVec Ideal S1024x1024 .f32 from m ((c : Thread nD τ).loc main_arg15)) (ix2 k j)
  blk_point [iblk, V, idx_staying t]

/-- The window of the weights `W3` holds the whole array. -/
theorem W3_at (k j : Fin 1024) :
    (show FVec Ideal S1024x1024 .f32 from iblk m c 10 t) (ix2 k j) = (net m c).W3 k j := by
  show _ = (show FVec Ideal S1024x1024 .f32 from m ((c : Thread nD τ).loc main_arg7)) (ix2 k j)
  blk_point [iblk, V, idx_staying t]

/-- The window of the bias `b3`, which the host lays out as a row, holds it whole. -/
theorem b3_at (k : Fin 1024) :
    (show FVec Ideal S1x1024 .f32 from iblk m c 11 t) (ix2 0 k) = (net m c).b3 k := by
  show _ = (show FVec Ideal S1024 .f32 from m ((c : Thread nD τ).loc main_arg8)) (ix1 k)
  blk_point [iblk, idx_staying t]

/-- The window of the weights `Wn` holds the whole array. -/
theorem Wn_at (o : Fin 2) (k : Fin 1024) :
    (show FVec Ideal S2x1024 .f32 from iblk m c 12 t) (ix2 o k) = (net m c).Wn o k := by
  show _ = (show FVec Ideal S2x1024 .f32 from m ((c : Thread nD τ).loc main_arg13)) (ix2 o k)
  blk_point [iblk, V, idx_staying t]

/-- The window of the bias `bn`, which the host lays out as a row, holds it whole. -/
theorem bn_at (o : Fin 2) :
    (show FVec Ideal S1x2 .f32 from iblk m c 13 t) (ix2 0 o) = (net m c).bn o := by
  show _ = (show FVec Ideal S2 .f32 from m ((c : Thread nD τ).loc main_arg14)) (ix1 o)
  blk_point [iblk, idx_staying t]

/-- The window of the weights `Wc` holds the whole array. -/
theorem Wc_at (k : Fin 1024) :
    (show FVec Ideal S1x1024 .f32 from iblk m c 14 t) (ix2 0 k) = (net m c).Wc k := by
  show _ = (show FVec Ideal S1x1024 .f32 from m ((c : Thread nD τ).loc main_arg9)) (ix2 0 k)
  blk_point [iblk, V, idx_staying t]

/-- The window of the bias `bc`, which the host lays out as a row, holds it whole. -/
theorem bc_at :
    (show FVec Ideal S1x1 .f32 from iblk m c 15 t) (ix2 0 0) = (net m c).bc := by
  show _ = (show FVec Ideal S1 .f32 from m ((c : Thread nD τ).loc main_arg10)) (ix1 0)
  blk_point [iblk, idx_staying t]

/-- The window of the weights `Wv` holds the whole array. -/
theorem Wv_at (k : Fin 1024) :
    (show FVec Ideal S1x1024 .f32 from iblk m c 16 t) (ix2 0 k) = (net m c).Wv k := by
  show _ = (show FVec Ideal S1x1024 .f32 from m ((c : Thread nD τ).loc main_arg16)) (ix2 0 k)
  blk_point [iblk, V, idx_staying t]

/-- The window of the bias `bv`, which the host lays out as a row, holds it whole. -/
theorem bv_at :
    (show FVec Ideal S1x1 .f32 from iblk m c 17 t) (ix2 0 0) = (net m c).bv := by
  show _ = (show FVec Ideal S1 .f32 from m ((c : Thread nD τ).loc main_arg17)) (ix1 0)
  blk_point [iblk, idx_staying t]

end Cert.KernelIdeal.Meaning

end
-- ==== Proof.K.Payload.lean ====
module

public import proofs.«01_k».proof.Proof.Gen.KernelIdeal.Skeleton
public import proofs.«01_k».proof.Proof.K.Model

/-!
What one block computes. Each value that the kernel's body stores, read at plain indices, is a stage of the model,
when the arrays the body loaded are the model's. The setup's values cover all 128 samples, stored as 64 pairs; a grid
point's values cover the two samples `r 0` and `r 1` of its pair.
-/

@[expose] public section

set_option maxRecDepth 16384

noncomputable section

namespace Cert.KernelIdeal.Meaning

open Cert.KernelIdeal Cert.KernelIdeal.Gen Cert.Model
open Idealize.ShloMosaic Idealize.ShloMosaic.TcCoe Idealize.SL.Sem

variable (N : Model.Net) (r : Fin 2 → Fin 128)

/-! ### The setup, at the first grid point -/

section Setup

variable (v107 : Vec Ideal S128x512 .f32) (v108 : Vec Ideal S1024x512 .f32) (v110 : Vec Ideal S1x1024 .f32)
  (h107 : ∀ b j, v107 (ix2 b j) = N.items b j) (h108 : ∀ k j, v108 (ix2 k j) = N.W1 k j)
  (h110 : ∀ k, v110 (ix2 0 k) = N.b1 k)

include h107 h108 h110

/-- The embedding of every sample. -/
theorem emb_all (b : Fin 128) (k : Fin 1024) : k0_pay2 v107 v108 v110 (ix2 b k) = N.emb b k := by
  pointwise [k0_pay2, h107, h108, h110]
  rfl

/-- The embeddings as the kernel keeps them, by pairs. -/
theorem emb_pairs (s : Fin 64) (g : Fin 2) (k : Fin 1024) :
    k0_pay3 v107 v108 v110 (ix3 s g k) = N.emb (row s g) k := by
  pointwise [k0_pay3]
  exact emb_all N _ _ _ h107 h108 h110 (row s g) k

/-- The fixed part of the hidden layer's input, by pairs. -/
theorem cur_pairs (v119 : Vec Ideal S1024x1024 .f32) (v121 : Vec Ideal S1x1024 .f32)
    (h119 : ∀ k j, v119 (ix2 k j) = N.W2 k j) (h121 : ∀ k, v121 (ix2 0 k) = N.b2 k)
    (s : Fin 64) (g : Fin 2) (k : Fin 1024) :
    k0_pay4 v107 v108 v110 v119 v121 (ix3 s g k) = N.cur (row s g) k := by
  pointwise [k0_pay4, emb_all N _ _ _ h107 h108 h110, h119, h121]
  rfl

end Setup

/-- The reward's embedding, by pairs. -/
theorem rew_pairs (v129 : Vec Ideal S128x1 .f32) (v130 v135 : Vec Ideal S1x1024 .f32)
    (h129 : ∀ b, v129 (ix2 b 0) = N.reward b) (h130 : ∀ k, v130 (ix2 0 k) = N.Wr k) (h135 : ∀ k, v135 (ix2 0 k) = N.br k)
    (s : Fin 64) (g : Fin 2) (k : Fin 1024) :
    k0_pay6 (k0_pay5 v129 v130 v135) (ix3 s g k) = N.rew (row s g) k := by
  pointwise [k0_pay6, k0_pay5, h129, h130, h135]
  rfl

/-! ### One pair of samples -/

/-- The pair's embeddings. -/
theorem emb_pair (v5 : Vec Ideal S1x2x1024 .f32) (h5 : ∀ g k, v5 (ix3 0 g k) = N.emb (r g) k) (g : Fin 2) (k : Fin 1024) :
    k0_pay7 v5 (ix2 g k) = N.emb (r g) k := by
  pointwise [k0_pay7, h5]

section Pair

variable (v3 : Vec Ideal S1024x1024 .f32) (v5 : Vec Ideal S1x2x1024 .f32) (v7 v12 : Vec Ideal S1x1024x1024 .f32)
  (v19 : Vec Ideal S1x2x1024 .f32)
  (h3 : ∀ k j, v3 (ix2 k j) = N.alpha k j) (h5 : ∀ g k, v5 (ix3 0 g k) = N.emb (r g) k)
  (h7 : ∀ h i, v7 (ix3 0 h i) = N.plastic (r 0) h i) (h12 : ∀ h i, v12 (ix3 0 h i) = N.plastic (r 1) h i)
  (h19 : ∀ g k, v19 (ix3 0 g k) = N.cur (r g) k)

include h3 h5 h7 h12 h19

/-- The hidden layer's input. The kernel multiplies the embedding by the scaled matrix, and adds the fixed part second:
    the model's sum with its factors and its two terms exchanged. -/
theorem pre_pair (g : Fin 2) (k : Fin 1024) : k0_pay8 v3 v5 v7 v12 v19 (ix2 g k) = N.pre (r g) k := by
  have key : ∀ b, (∑ j, N.emb b j * (N.alpha k j * N.plastic b k j)) + N.cur b k = N.pre b k := fun b => by
    rw [Model.Net.pre, add_comm]
    exact congrArg _ (Finset.sum_congr rfl fun j _ => mul_comm _ _)
  rw [← key]
  match g with
  | 0 => pointwise [k0_pay8, k0_pay7, h3, h5, h7, h12, h19]
  | 1 => pointwise [k0_pay8, k0_pay7, h3, h5, h7, h12, h19]

/-- The hidden layer. -/
theorem hidden_pair (g : Fin 2) (k : Fin 1024) : k0_pay9 v3 v5 v7 v12 v19 (ix2 g k) = N.hidden (r g) k := by
  pointwise [k0_pay9, pre_pair N r v3 v5 v7 v12 v19 h3 h5 h7 h12 h19]
  rfl

/-- The hidden layer as it is stored. -/
theorem hid_pair (g : Fin 2) (p : Fin 1) (k : Fin 1024) :
    k0_pay10 v3 v5 v7 v12 v19 (ix3 g p k) = N.hidden (r g) k := by
  pointwise [k0_pay10, hidden_pair N r v3 v5 v7 v12 v19 h3 h5 h7 h12 h19]

/-- The modulating layer's product. -/
theorem modul_pair (v26 : Vec Ideal S1x2x1024 .f32) (v29 : Vec Ideal S1024x1024 .f32)
    (h26 : ∀ g k, v26 (ix3 0 g k) = N.rew (r g) k) (h29 : ∀ k j, v29 (ix2 k j) = N.W3 k j) (g : Fin 2) (k : Fin 1024) :
    k0_pay11 v3 v5 v7 v12 v19 v26 v29 (ix2 g k) = ∑ j, (N.hidden (r g) j + N.rew (r g) j) * N.W3 k j := by
  pointwise [k0_pay11, hidden_pair N r v3 v5 v7 v12 v19 h3 h5 h7 h12 h19, h26, h29]

end Pair

/-- The neuromodulator of each sample of the pair, from the modulating layer's product `v30`. -/
theorem nm_pair (v30 : FVec Ideal S2x1024 .f32) (v31 : Vec Ideal S1x1024 .f32) (v36 : Vec Ideal S2x1024 .f32)
    (v38 : Vec Ideal S1x2 .f32)
    (h30 : ∀ g k, v30 (ix2 g k) = ∑ j, (N.hidden (r g) j + N.rew (r g) j) * N.W3 k j)
    (h31 : ∀ k, v31 (ix2 0 k) = N.b3 k) (h36 : ∀ o k, v36 (ix2 o k) = N.Wn o k) (h38 : ∀ o, v38 (ix2 0 o) = N.bn o)
    (g : Fin 2) (p : Fin 1) : k0_pay12 v30 v31 v36 v38 (ix2 g p) = N.nm (r g) := by
  obtain rfl : p = 0 := Subsingleton.elim _ _
  pointwise [k0_pay12, h30, h31, h36, h38]
  rfl

/-- The neuromodulators as they are stored. -/
theorem nm_stored (v30 : FVec Ideal S2x1024 .f32) (v31 : Vec Ideal S1x1024 .f32) (v36 : Vec Ideal S2x1024 .f32)
    (v38 : Vec Ideal S1x2 .f32) (h : ∀ g p, k0_pay12 v30 v31 v36 v38 (ix2 g p) = N.nm (r g)) (g : Fin 2) (p q : Fin 1) :
    k0_pay13 v30 v31 v36 v38 (ix3 g p q) = N.nm (r g) := by
  pointwise [k0_pay13, h]

/-- The choice of each sample of the pair, from the hidden layer `v22`. -/
theorem choice_pair (v22 : FVec Ideal S2x1024 .f32) (v48 : Vec Ideal S1x1024 .f32) (v53 : Vec Ideal S1x1 .f32)
    (h22 : ∀ g k, v22 (ix2 g k) = N.hidden (r g) k) (h48 : ∀ k, v48 (ix2 0 k) = N.Wc k) (h53 : v53 (ix2 0 0) = N.bc)
    (g : Fin 2) (p q : Fin 1) : k0_pay14 v22 v48 v53 (ix3 g p q) = N.choice (r g) := by
  pointwise [k0_pay14, h22, h48, h53]
  rfl

/-- The value of each sample of the pair, from the hidden layer `v22`. -/
theorem value_pair (v22 : FVec Ideal S2x1024 .f32) (v60 : Vec Ideal S1x1024 .f32) (v65 : Vec Ideal S1x1 .f32)
    (h22 : ∀ g k, v22 (ix2 g k) = N.hidden (r g) k) (h60 : ∀ k, v60 (ix2 0 k) = N.Wv k) (h65 : v65 (ix2 0 0) = N.bv)
    (g : Fin 2) (p q : Fin 1) : k0_pay17 (k0_pay15 v22 v60) (k0_pay16 v65) (ix3 g p q) = N.value (r g) := by
  pointwise [k0_pay17, k0_pay15, k0_pay16, h22, h60, h65]
  rfl

section Plastic

variable (v6 v21 : FVec Ideal S2x1024 .f32) (v45 : FVec Ideal S2x1 .f32)
  (h6 : ∀ g k, v6 (ix2 g k) = N.emb (r g) k) (h21 : ∀ g k, v21 (ix2 g k) = N.pre (r g) k)
  (h45 : ∀ g p, v45 (ix2 g p) = N.nm (r g))

/-- The kernel applies the gain to the neuromodulator, the model to the trace: the same product. -/
theorem plastic_gain (b : Fin 128) (h i : Fin 1024) :
    min Model.upper (max Model.lower
      (N.plastic b h i + N.nm b * Model.gain * Ideal.tanh (N.pre b h * N.emb b i))) = N.plasticNext b h i := by
  rw [Model.Net.plasticNext, mul_assoc, mul_comm Model.gain]

include h6 h21 h45

/-- The first sample's updated plastic matrix. The outer product is a contraction with one term. -/
theorem plastic_first (v76 : Vec Ideal S1x1024x1024 .f32) (h76 : ∀ h i, v76 (ix3 0 h i) = N.plastic (r 0) h i)
    (p : Fin 1) (h i : Fin 1024) : k0_pay19 v6 v21 v45 v76 (ix3 p h i) = N.plasticNext (r 0) h i := by
  pointwise [k0_pay19, k0_pay18, h6, h21, h45, h76, Fin.sum_univ_one]
  exact plastic_gain N (r 0) h i

/-- The second sample's. -/
theorem plastic_second (v93 : Vec Ideal S1x1024x1024 .f32) (h93 : ∀ h i, v93 (ix3 0 h i) = N.plastic (r 1) h i)
    (p : Fin 1) (h i : Fin 1024) : k0_pay1 (k0_pay20 v6 v21 v45 v93) (ix3 p h i) = N.plasticNext (r 1) h i := by
  pointwise [k0_pay1, k0_pay20, k0_pay18, h6, h21, h45, h93, Fin.sum_univ_one]
  exact plastic_gain N (r 1) h i

end Plastic

end Cert.KernelIdeal.Meaning

end
-- ==== Proof.K.Body.lean ====
module

public import proofs.«01_k».proof.Proof.K.Windows
public import proofs.«01_k».proof.Proof.K.Payload
public import Idealize.ShloMosaic.Lib.Pipeline.ReadBack

/-!
What the kernel's buffers hold after each grid point. The three scratch buffers are filled at the first point, with the
embeddings, the fixed parts and the reward's embeddings of all pairs of samples, and no later point stores into them; so
every point reads its own pair's rows there, and its five output blocks are the model's values at that pair.
-/

@[expose] public section

set_option maxRecDepth 16384

noncomputable section

namespace Cert.KernelIdeal.Meaning

open Cert.KernelIdeal Cert.KernelIdeal.Gen Cert.Model
open Idealize.ShloMosaic Idealize.ShloMosaic.TcCoe Idealize.SL.Sem

variable (m : (ℓ : Loc nD τ sig) → Buf (Elt Ideal) ℓ) (c : Dev nD)

/-- What the three scratch buffers hold, once filled. -/
structure Filled (N : Net) (E C R : Vec Ideal S64x2x1024 .f32) : Prop where
  emb : ∀ s g k, E (ix3 s g k) = N.emb (row s g) k
  cur : ∀ s g k, C (ix3 s g k) = N.cur (row s g) k
  rew : ∀ s g k, R (ix3 s g k) = N.rew (row s g) k

/-- What the first point stores into the scratch buffers. -/
theorem filled_first (t : Fin cfg0.N) : Filled (net m c)
    (k0_pay3 (iblk m c 1 t) (iblk m c 3 t) (iblk m c 4 t))
    (k0_pay4 (iblk m c 1 t) (iblk m c 3 t) (iblk m c 4 t) (iblk m c 5 t) (iblk m c 6 t))
    (k0_pay6 (k0_pay5 (iblk m c 2 t) (iblk m c 7 t) (iblk m c 8 t))) where
  emb := emb_pairs _ _ _ _ (items_at m c t) (W1_at m c t) (b1_at m c t)
  cur := cur_pairs _ _ _ _ (items_at m c t) (W1_at m c t) (b1_at m c t) _ _ (W2_at m c t) (b2_at m c t)
  rew := rew_pairs _ _ _ _ (reward_at m c t) (Wr_at m c t) (br_at m c t)

/-- After every grid point the scratch buffers are filled: by induction on the point. -/
theorem filled : ∀ (n : ℕ) (hn : n < cfg0.N), Filled (net m c) (outsAt0 m c n hn).2.2.2.2.2.1
    (outsAt0 m c n hn).2.2.2.2.2.2.1 (outsAt0 m c n hn).2.2.2.2.2.2.2
  | 0, hn => by
    have h := outsAt0_A m c ⟨0, hn⟩ rfl
    dsimp only at h
    rw [h]
    frame_out
    exact filled_first m c ⟨0, hn⟩
  | n + 1, hn => by
    have hN : cfg0.N = 64 := N_0
    have h := outsAt0_B m c ⟨n + 1, hn⟩ (by dsimp only; omega)
    dsimp only at h
    rw [h]
    exact filled n (Nat.lt_of_succ_lt hn)

/-- The point's pair of rows of a scratch buffer. -/
def rows (X : Vec Ideal S64x2x1024 .f32) (t : Fin cfg0.N) : Vec Ideal S1x2x1024 .f32 := fun j => X (ix3 (pair t) (j 1) (j 2))

/-- One of the two matrices of a block of plastic matrices. -/
def half (X : Vec Ideal S2x1024x1024 .f32) (g : Fin 2) : Vec Ideal S1x1024x1024 .f32 := fun j => X (ix3 g (j 1) (j 2))

/-- The offset that the kernel computes for its reads of the scratch buffers, decided at every point. -/
theorem off_at : ∀ t : Fin cfg0.N, k0_off1 (grid0.coords t) = ![t.val, 0, 0] :=
  (by decide +kernel : ∀ t : Fin grid0.N, _)

/-- The kernel's read of a scratch buffer is the point's pair of rows. -/
theorem ld_rows (X : Vec Ideal S64x2x1024 .f32) (t : Fin cfg0.N) (inb) :
    (View.ld (Val := Elt Ideal) (S := S64x2x1024) (e' := .f32) X
      (Rect.unit (k0_off1 (grid0.coords t)) ![1, 2, 1024] inb) : Vec Ideal S1x2x1024 .f32) = rows X t := by
  funext j
  idx_vars j
  obtain rfl : j0 = 0 := Subsingleton.elim _ _
  pointwise [rows, pair, off_at t]

/-- The kernel's read of the first plastic matrix of its block. -/
theorem ld_half0 (X : Vec Ideal S2x1024x1024 .f32) (inb) :
    (View.ld (Val := Elt Ideal) (S := S2x1024x1024) (e' := .f32) X
      (Rect.unit ![0, 0, 0] ![1, 1024, 1024] inb) : Vec Ideal S1x1024x1024 .f32) = half X 0 := by
  funext j
  idx_vars j
  obtain rfl : j0 = 0 := Subsingleton.elim _ _
  pointwise [half]

/-- The kernel's read of the second plastic matrix of its block. -/
theorem ld_half1 (X : Vec Ideal S2x1024x1024 .f32) (inb) :
    (View.ld (Val := Elt Ideal) (S := S2x1024x1024) (e' := .f32) X
      (Rect.unit ![1, 0, 0] ![1, 1024, 1024] inb) : Vec Ideal S1x1024x1024 .f32) = half X 1 := by
  funext j
  idx_vars j
  obtain rfl : j0 = 0 := Subsingleton.elim _ _
  pointwise [half]

/-- The two stores into the plastic matrices' block, read back: each matrix is what its own store put there. -/
theorem stored_halves (P0 P1 : Vec Ideal S1x1024x1024 .f32) (inb0 inb1) (f : Fin 2 → Fin 1024 → Fin 1024 → EReal)
    (first : ∀ p h i, P0 (ix3 p h i) = f 0 h i) (second : ∀ p h i, P1 (ix3 p h i) = f 1 h i) (y : S2x1024x1024.Idx) :
    (View.canon (Val := Elt Ideal) (s := S2x1024x1024) (e := .f32)
      [⟨Rect.unit ![1, 0, 0] ![1, 1024, 1024] inb1, P1⟩, ⟨Rect.unit ![0, 0, 0] ![1, 1024, 1024] inb0, P0⟩]
      : Vec Ideal S2x1024x1024 .f32) y = f (y 0) (y 1) (y 2) := by
  have hcover : ∃ p ∈ ([⟨Rect.unit ![1, 0, 0] ![1, 1024, 1024] inb1, P1⟩, ⟨Rect.unit ![0, 0, 0] ![1, 1024, 1024] inb0, P0⟩]
      : List (View.Piece (Elt Ideal) S2x1024x1024 .f32)), y ∈ p.1.set := by
    have h2 : (y 0).val < 2 := (y 0).isLt
    have hh : (y 1).val < 1024 := (y 1).isLt
    have hi : (y 2).val < 1024 := (y 2).isLt
    by_cases hg : (y 0).val = 0
    · refine ⟨⟨Rect.unit ![0, 0, 0] ![1, 1024, 1024] inb0, P0⟩, by simp, ?_⟩
      rw [Rect.mem_set_unit]
      intro a
      fin_cases a <;> simp <;> omega
    · refine ⟨⟨Rect.unit ![1, 0, 0] ![1, 1024, 1024] inb1, P1⟩, by simp, ?_⟩
      rw [Rect.mem_set_unit]
      intro a
      fin_cases a <;> simp <;> omega
  canon_tiles x e using hcover
  · have a0 : y 0 = (1 : Fin 2) := Fin.ext (by show (y 0).val = 1; omega)
    have a1 : y 1 = x 1 := Fin.ext e1
    have a2 : y 2 = x 2 := Fin.ext e2
    rw [a0, a1, a2, ← second (x 0) (x 1) (x 2)]
    exact congrArg P1 (ix3_eta x).symm
  · have a0 : y 0 = (0 : Fin 2) := Fin.ext (by show (y 0).val = 0; omega)
    have a1 : y 1 = x 1 := Fin.ext e1
    have a2 : y 2 = x 2 := Fin.ext e2
    rw [a0, a1, a2, ← first (x 0) (x 1) (x 2)]
    exact congrArg P0 (ix3_eta x).symm

/-- What the output blocks of the pair `s` of samples hold: the choices, the neuromodulators, the values, the updated
    plastic matrices, the hidden layers. -/
structure Outs (N : Net) (s : Fin 64) (ch nm va : Vec Ideal S2x1x1 .f32) (pl : Vec Ideal S2x1024x1024 .f32)
    (hi : Vec Ideal S2x1x1024 .f32) : Prop where
  choice : ∀ g p q, ch (ix3 g p q) = N.choice (row s g)
  nm : ∀ g p q, nm (ix3 g p q) = N.nm (row s g)
  value : ∀ g p q, va (ix3 g p q) = N.value (row s g)
  plastic : ∀ g h i, pl (ix3 g h i) = N.plasticNext (row s g) h i
  hidden : ∀ g p k, hi (ix3 g p k) = N.hidden (row s g) k

section Point

variable (t : Fin cfg0.N) {E C R : Vec Ideal S64x2x1024 .f32} (hf : Filled (net m c) E C R)

include hf

/-- The rows the point reads of the first buffer are its samples' embeddings. -/
theorem rows_emb (g : Fin 2) (k : Fin 1024) : rows E t (ix3 0 g k) = (net m c).emb (row (pair t) g) k := hf.emb _ _ _
/-- The rows the point reads of the second buffer are its samples' fixed parts of the hidden layer's input. -/
theorem rows_cur (g : Fin 2) (k : Fin 1024) : rows C t (ix3 0 g k) = (net m c).cur (row (pair t) g) k := hf.cur _ _ _
/-- The rows the point reads of the third buffer are its samples' reward's embeddings. -/
theorem rows_rew (g : Fin 2) (k : Fin 1024) : rows R t (ix3 0 g k) = (net m c).rew (row (pair t) g) k := hf.rew _ _ _

/-- The point's five output blocks, computed over filled scratch buffers, are the model's values at the point's pair. -/
theorem outs_filled (pl : Vec Ideal S2x1024x1024 .f32)
    (hpl : ∀ f : Fin 2 → Fin 1024 → Fin 1024 → EReal,
      (∀ p h i, k0_pay19 (k0_pay7 (rows E t))
        (k0_pay8 (iblk m c 9 t) (rows E t) (half (iblk m c 0 t) 0) (half (iblk m c 0 t) 1) (rows C t))
        (k0_pay12 (k0_pay11 (iblk m c 9 t) (rows E t) (half (iblk m c 0 t) 0) (half (iblk m c 0 t) 1) (rows C t)
          (rows R t) (iblk m c 10 t)) (iblk m c 11 t) (iblk m c 12 t) (iblk m c 13 t))
        (half (iblk m c 0 t) 0) (ix3 p h i) = f 0 h i) →
      (∀ p h i, k0_pay1 (k0_pay20 (k0_pay7 (rows E t))
        (k0_pay8 (iblk m c 9 t) (rows E t) (half (iblk m c 0 t) 0) (half (iblk m c 0 t) 1) (rows C t))
        (k0_pay12 (k0_pay11 (iblk m c 9 t) (rows E t) (half (iblk m c 0 t) 0) (half (iblk m c 0 t) 1) (rows C t)
          (rows R t) (iblk m c 10 t)) (iblk m c 11 t) (iblk m c 12 t) (iblk m c 13 t))
        (half (iblk m c 0 t) 1)) (ix3 p h i) = f 1 h i) → ∀ g h i, pl (ix3 g h i) = f g h i) :
    Outs (net m c) (pair t)
      (k0_pay14 (k0_pay9 (iblk m c 9 t) (rows E t) (half (iblk m c 0 t) 0) (half (iblk m c 0 t) 1) (rows C t))
        (iblk m c 14 t) (iblk m c 15 t))
      (k0_pay13 (k0_pay11 (iblk m c 9 t) (rows E t) (half (iblk m c 0 t) 0) (half (iblk m c 0 t) 1) (rows C t)
        (rows R t) (iblk m c 10 t)) (iblk m c 11 t) (iblk m c 12 t) (iblk m c 13 t))
      (k0_pay17 (k0_pay15 (k0_pay9 (iblk m c 9 t) (rows E t) (half (iblk m c 0 t) 0) (half (iblk m c 0 t) 1) (rows C t))
        (iblk m c 16 t)) (k0_pay16 (iblk m c 17 t)))
      pl
      (k0_pay10 (iblk m c 9 t) (rows E t) (half (iblk m c 0 t) 0) (half (iblk m c 0 t) 1) (rows C t)) := by
  have h0 : ∀ h i, half (iblk m c 0 t) 0 (ix3 0 h i) = (net m c).plastic (row (pair t) 0) h i := plastic_at m c t 0
  have h1 : ∀ h i, half (iblk m c 0 t) 1 (ix3 0 h i) = (net m c).plastic (row (pair t) 1) h i := plastic_at m c t 1
  have hE := rows_emb m c t hf
  have hC := rows_cur m c t hf
  have hR := rows_rew m c t hf
  have hH := hidden_pair (net m c) (row (pair t)) _ _ _ _ _ (alpha_at m c t) hE h0 h1 hC
  have hN := nm_pair (net m c) (row (pair t)) _ _ _ _
    (modul_pair (net m c) (row (pair t)) _ _ _ _ _ (alpha_at m c t) hE h0 h1 hC _ _ hR (W3_at m c t))
    (b3_at m c t) (Wn_at m c t) (bn_at m c t)
  have hP := pre_pair (net m c) (row (pair t)) _ _ _ _ _ (alpha_at m c t) hE h0 h1 hC
  have hM := emb_pair (net m c) (row (pair t)) _ hE
  exact
    { choice := choice_pair _ _ _ _ _ hH (Wc_at m c t) (bc_at m c t)
      nm := nm_stored _ _ _ _ _ _ hN
      value := value_pair _ _ _ _ _ hH (Wv_at m c t) (bv_at m c t)
      plastic := hpl _ (plastic_first _ _ _ _ _ hM hP hN _ h0) (plastic_second _ _ _ _ _ hM hP hN _ h1)
      hidden := hid_pair _ _ _ _ _ _ _ (alpha_at m c t) hE h0 h1 hC }

end Point

/-- After grid point `t`, the five output buffers hold the model's values at the point's pair of samples. -/
theorem outs (t : Fin cfg0.N) : Outs (net m c) (pair t) (outsAt0 m c t.val t.isLt).1 (outsAt0 m c t.val t.isLt).2.1
    (outsAt0 m c t.val t.isLt).2.2.1 (outsAt0 m c t.val t.isLt).2.2.2.1 (outsAt0 m c t.val t.isLt).2.2.2.2.1 := by
  by_cases h : t.val % 64 = 0
  · rw [outsAt0_A m c t h]
    frame_out
    simp only [ld_rows, ld_half0, ld_half1]
    exact outs_filled m c t (filled_first m c t) _ fun f a b g h i => stored_halves _ _ _ _ f a b (ix3 g h i)
  · rw [outsAt0_B m c t h]
    frame_out
    simp only [read_unread_whole, ld_rows, ld_half0, ld_half1]
    exact outs_filled m c t (filled m c (t.val - 1) _) _ fun f a b g h i => stored_halves _ _ _ _ f a b (ix3 g h i)

end Cert.KernelIdeal.Meaning

end
-- ==== Proof.K.Arrays.lean ====
module

public import proofs.«01_k».proof.Proof.K.Body
public import proofs.«01_k».proof.Proof.Gen.KernelIdeal.Value

/-!
What the kernel's five result arrays hold when it has run: every array is written back one pair of samples at a time, the
grid's points cover it, and so each is the model's value at every sample.
-/

@[expose] public section

set_option maxRecDepth 16384

noncomputable section

namespace Cert.KernelIdeal.Meaning

open Cert.KernelIdeal Cert.KernelIdeal.Gen Cert.Model
open Idealize.ShloMosaic Idealize.ShloMosaic.TcCoe Idealize.SL.Sem

variable (m : (ℓ : Loc nD τ sig) → Buf (Elt Ideal) ℓ) (c : Dev nD)

/-- The array of choices. -/
theorem choice_array : (dats m 0 c).arrAt 18 (cfgs 0).N = fun i => (net m c).choice (i 0) := by
  refine (dats m 0 c).arrAt_eq_of_covers 18 _ (by decide +kernel) fun t hf y => ?_
  blk_simp
  rw [after0_18]
  have e : (win0_18.blk t).view.emb y 0 = row (pair t) (y 0) := Fin.ext (by
    unfold row pair; blk_simp [idx_moving t])
  rw [e]
  exact (congrArg _ (ix3_eta y).symm).trans ((outs m c t).choice (y 0) (y 1) (y 2))

/-- The array of neuromodulators. -/
theorem nm_array : (dats m 0 c).arrAt 19 (cfgs 0).N = fun i => (net m c).nm (i 0) := by
  refine (dats m 0 c).arrAt_eq_of_covers 19 _ (by decide +kernel) fun t hf y => ?_
  blk_simp
  rw [after0_19]
  have e : (win0_19.blk t).view.emb y 0 = row (pair t) (y 0) := Fin.ext (by
    unfold row pair; blk_simp [idx_moving t])
  rw [e]
  exact (congrArg _ (ix3_eta y).symm).trans ((outs m c t).nm (y 0) (y 1) (y 2))

/-- The array of values. -/
theorem value_array : (dats m 0 c).arrAt 20 (cfgs 0).N = fun i => (net m c).value (i 0) := by
  refine (dats m 0 c).arrAt_eq_of_covers 20 _ (by decide +kernel) fun t hf y => ?_
  blk_simp
  rw [after0_20]
  have e : (win0_20.blk t).view.emb y 0 = row (pair t) (y 0) := Fin.ext (by
    unfold row pair; blk_simp [idx_moving t])
  rw [e]
  exact (congrArg _ (ix3_eta y).symm).trans ((outs m c t).value (y 0) (y 1) (y 2))

/-- The array of updated plastic matrices. -/
theorem plastic_array : (dats m 0 c).arrAt 21 (cfgs 0).N = fun i => (net m c).plasticNext (i 0) (i 1) (i 2) := by
  refine (dats m 0 c).arrAt_eq_of_covers 21 _ (by decide +kernel) fun t hf y => ?_
  blk_simp
  rw [after0_21]
  have e : (win0_21.blk t).view.emb y 0 = row (pair t) (y 0) := Fin.ext (by
    unfold row pair; blk_simp [idx_moving t])
  have e1 : (win0_21.blk t).view.emb y 1 = y 1 := Fin.ext (by blk_simp [idx_moving t])
  have e2 : (win0_21.blk t).view.emb y 2 = y 2 := Fin.ext (by blk_simp [idx_moving t])
  rw [e, e1, e2]
  exact (congrArg _ (ix3_eta y).symm).trans ((outs m c t).plastic (y 0) (y 1) (y 2))

/-- The array of hidden layers. -/
theorem hidden_array : (dats m 0 c).arrAt 22 (cfgs 0).N = fun i => (net m c).hidden (i 0) (i 2) := by
  refine (dats m 0 c).arrAt_eq_of_covers 22 _ (by decide +kernel) fun t hf y => ?_
  blk_simp
  rw [after0_22]
  have e : (win0_22.blk t).view.emb y 0 = row (pair t) (y 0) := Fin.ext (by
    unfold row pair; blk_simp [idx_moving t])
  have e2 : (win0_22.blk t).view.emb y 2 = y 2 := Fin.ext (by blk_simp [idx_moving t])
  rw [e, e2]
  exact (congrArg _ (ix3_eta y).symm).trans ((outs m c t).hidden (y 0) (y 1) (y 2))

/-- What the kernel's five result buffers hold when it has run; its arguments are as they were. -/
theorem results (ρ : Dev nD → PrngReg) :
    θ_run defs (onTc (τ := τ) (main (F := Ideal))) ⟨m, fun _ => 0, ρ⟩ fun r => ∀ c : Dev nD,
      r.2.mem ((c.tc : Thread nD τ).loc main_v8_0) = (fun i => (net m c).choice (i 0))
      ∧ r.2.mem ((c.tc : Thread nD τ).loc main_v8_1) = (fun i => (net m c).nm (i 0))
      ∧ r.2.mem ((c.tc : Thread nD τ).loc main_v8_2) = (fun i => (net m c).value (i 0))
      ∧ r.2.mem ((c.tc : Thread nD τ).loc main_v8_3) = (fun i => (net m c).plasticNext (i 0) (i 1) (i 2))
      ∧ r.2.mem ((c.tc : Thread nD τ).loc main_v8_4) = (fun i => (net m c).hidden (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun r h c => ?_) (Value.run m ρ)
  obtain ⟨h18, h19, h20, h21, h22, kept⟩ := h c
  exact ⟨h18.trans ((Value.final18 m c).symm.trans (choice_array m c)),
    h19.trans ((Value.final19 m c).symm.trans (nm_array m c)),
    h20.trans ((Value.final20 m c).symm.trans (value_array m c)),
    h21.trans ((Value.final21 m c).symm.trans (plastic_array m c)),
    h22.trans ((Value.final22 m c).symm.trans (hidden_array m c)), kept⟩

end Cert.KernelIdeal.Meaning

end
-- ==== Proof.K.RefValue.lean ====
module

public import proofs.«01_k».proof.Proof.Gen.ReferenceIdeal.Read
public import proofs.«01_k».proof.Proof.K.Model

/-!
What the reference computes: each of its stages, read at plain indices, is the stage of the model.
The stages are the reference's operations one by one (`val_main_vN`); a lemma here covers the few operations between
two stages of the model, and cites the lemma of the stage before.
-/

@[expose] public section

set_option maxRecDepth 16384

noncomputable section

namespace Cert.ReferenceIdeal.Meaning

open Cert.ReferenceIdeal Cert.ReferenceIdeal.Gen Cert.ReferenceIdeal.Read
open Idealize.ShloMosaic Idealize.ShloMosaic.TcCoe Idealize.SL.Sem

/-- The reference's eighteen arguments, in its order. -/
structure Args where
  x0 : FVec Ideal S128x512 .f32
  x1 : FVec Ideal S128x1024x1024 .f32
  x2 : FVec Ideal S128x1 .f32
  x3 : FVec Ideal S1024x512 .f32
  x4 : FVec Ideal S1024 .f32
  x5 : FVec Ideal S1024x1024 .f32
  x6 : FVec Ideal S1024 .f32
  x7 : FVec Ideal S1024x1024 .f32
  x8 : FVec Ideal S1024 .f32
  x9 : FVec Ideal S1x1024 .f32
  x10 : FVec Ideal S1 .f32
  x11 : FVec Ideal S1024x1 .f32
  x12 : FVec Ideal S1024 .f32
  x13 : FVec Ideal S2x1024 .f32
  x14 : FVec Ideal S2 .f32
  x15 : FVec Ideal S1024x1024 .f32
  x16 : FVec Ideal S1x1024 .f32
  x17 : FVec Ideal S1 .f32

/-- The model's arrays, read off the arguments. -/
def Args.net (X : Args) : Model.Net where
  items b j := X.x0 (ix2 b j)
  plastic b h i := X.x1 (ix3 b h i)
  reward b := X.x2 (ix2 b 0)
  W1 k j := X.x3 (ix2 k j)
  b1 k := X.x4 (ix1 k)
  W2 k j := X.x5 (ix2 k j)
  b2 k := X.x6 (ix1 k)
  W3 k j := X.x7 (ix2 k j)
  b3 k := X.x8 (ix1 k)
  Wc k := X.x9 (ix2 0 k)
  bc := X.x10 (ix1 0)
  Wr k := X.x11 (ix2 k 0)
  br k := X.x12 (ix1 k)
  Wn o k := X.x13 (ix2 o k)
  bn o := X.x14 (ix1 o)
  alpha k j := X.x15 (ix2 k j)
  Wv k := X.x16 (ix2 0 k)
  bv := X.x17 (ix1 0)

variable (X : Args)

/-- The embedding stage. -/
theorem emb_at (b : Fin 128) (k : Fin 1024) :
    val_main_v5 (F := Ideal) X.x0 X.x3 X.x4 (ix2 b k) = X.net.emb b k := by
  pointwise [val_main_v5, val_main_v4, val_main_v3, val_main_v2, val_main_v1, val_main_v0]
  rfl

/-- The hidden layer's input. -/
theorem pre_at (b : Fin 128) (k : Fin 1024) :
    val_main_v15 (F := Ideal) X.x0 X.x1 X.x3 X.x4 X.x5 X.x6 X.x15 (ix2 b k) = X.net.pre b k := by
  pointwise [val_main_v15, val_main_v14, val_main_v13, val_main_v12, val_main_v11, val_main_v10, val_main_v9,
    val_main_v8, val_main_v7, val_main_v6, emb_at X]
  rfl

/-- The hidden layer. -/
theorem hidden_at (b : Fin 128) (k : Fin 1024) :
    val_main_v16 (F := Ideal) X.x0 X.x1 X.x3 X.x4 X.x5 X.x6 X.x15 (ix2 b k) = X.net.hidden b k := by
  pointwise [val_main_v16, pre_at X]
  rfl

/-- The reward's embedding: the contraction has one term. -/
theorem rew_at (b : Fin 128) (k : Fin 1024) :
    val_main_v21 (F := Ideal) X.x2 X.x11 X.x12 (ix2 b k) = X.net.rew b k := by
  pointwise [val_main_v21, val_main_v20, val_main_v19, val_main_v18, val_main_v17, Fin.sum_univ_one]
  rfl

/-- The modulating layer. -/
theorem modul_at (b : Fin 128) (k : Fin 1024) :
    val_main_v28 (F := Ideal) X.x0 X.x1 X.x2 X.x3 X.x4 X.x5 X.x6 X.x7 X.x8 X.x11 X.x12 X.x15 (ix2 b k)
      = X.net.modul b k := by
  pointwise [val_main_v28, val_main_v27, val_main_v26, val_main_v25, val_main_v24, val_main_v23, val_main_v22,
    hidden_at X, rew_at X]
  rfl

/-- Its two outputs. -/
theorem nmOut_at (b : Fin 128) (o : Fin 2) :
    val_main_v34 (F := Ideal) X.x0 X.x1 X.x2 X.x3 X.x4 X.x5 X.x6 X.x7 X.x8 X.x11 X.x12 X.x13 X.x14 X.x15 (ix2 b o)
      = X.net.nmOut b o := by
  pointwise [val_main_v34, val_main_v33, val_main_v32, val_main_v31, val_main_v30, val_main_v29, modul_at X]
  rfl

/-- RESULT 2, the neuromodulator. -/
theorem nm_at (b : Fin 128) (p q : Fin 1) :
    val_main_v40 (F := Ideal) X.x0 X.x1 X.x2 X.x3 X.x4 X.x5 X.x6 X.x7 X.x8 X.x11 X.x12 X.x13 X.x14 X.x15 (ix3 b p q)
      = X.net.nm b := by
  pointwise [val_main_v40, val_main_v39, val_main_v38, val_main_v37, val_main_v36, val_main_v35]
  exact congrArg₂ (· - ·) (nmOut_at X b 0) (nmOut_at X b 1)

/-- RESULT 1, the choice: jax writes the sigmoid as `1 / (1 + exp (-x))`, which is what `logistic` denotes. -/
theorem choice_at (b : Fin 128) (p q : Fin 1) :
    val_main_v69 (F := Ideal) X.x0 X.x1 X.x3 X.x4 X.x5 X.x6 X.x9 X.x10 X.x15 (ix3 b p q) = X.net.choice b := by
  obtain rfl : q = 0 := Subsingleton.elim _ _
  pointwise [val_main_v69, val_main_v51, val_main_v50, val_main_v49, val_main_v48, val_main_v47, val_main_v46,
    val_main_v45, val_main_v44, val_main_v43, val_main_v42, val_main_v41, val_main_cst, val_main_cst_0, hidden_at X]
  rfl

/-- RESULT 3, the value. -/
theorem value_at (b : Fin 128) (p q : Fin 1) :
    val_main_v70 (F := Ideal) X.x0 X.x1 X.x3 X.x4 X.x5 X.x6 X.x15 X.x16 X.x17 (ix3 b p q) = X.net.value b := by
  obtain rfl : q = 0 := Subsingleton.elim _ _
  pointwise [val_main_v70, val_main_v56, val_main_v55, val_main_v54, val_main_v53, val_main_v52, hidden_at X]
  rfl

/-- RESULT 5, the hidden layer. -/
theorem hid_at (b : Fin 128) (p : Fin 1) (k : Fin 1024) :
    val_main_v71 (F := Ideal) X.x0 X.x1 X.x3 X.x4 X.x5 X.x6 X.x15 (ix3 b p k) = X.net.hidden b k := by
  pointwise [val_main_v71, hidden_at X]

/-- RESULT 4, the updated plastic matrices. -/
theorem plastic_at (b : Fin 128) (h i : Fin 1024) :
    val_main_v68 (F := Ideal) X.x0 X.x1 X.x2 X.x3 X.x4 X.x5 X.x6 X.x7 X.x8 X.x11 X.x12 X.x13 X.x14 X.x15 (ix3 b h i)
      = X.net.plasticNext b h i := by
  pointwise [val_main_v68, val_main_call0_v4, val_main_call0_v3, val_main_call0_v2, val_main_call0_v1,
    val_main_call0_v0, val_main_cst_3, val_main_cst_2, val_main_v67, val_main_v66, val_main_v65, val_main_v64,
    val_main_v63, val_main_cst_1, val_main_v62, val_main_v61, val_main_v60, val_main_v59, val_main_v58, val_main_v57,
    id, nm_at X, pre_at X, emb_at X]
  rfl

end Cert.ReferenceIdeal.Meaning

end
-- ==== Proof.K.RefResults.lean ====
module

public import proofs.«01_k».proof.Proof.K.RefValue

/-!
The reference's run, its five results stated as the model's values at every sample.
-/

@[expose] public section

set_option maxRecDepth 16384

noncomputable section

namespace Cert.ReferenceIdeal.Meaning

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ) (c : Dev nD)

/-- The arguments held by the reference's memory. -/
def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)

/-- A function of an index of three coordinates is known from its values at the coordinates. -/
theorem at_coordinates {n0 n1 n2 : ℕ} {f g : (⟨3, ![n0, n1, n2]⟩ : Shape).Idx → EReal}
    (h : ∀ a b d, f (ix3 a b d) = g (ix3 a b d)) : f = g :=
  funext fun i => by rw [← ix3_eta i]; exact h _ _ _

/-- What the reference's five result buffers hold when it has run; its arguments are as they were. -/
theorem results (ρ : Dev nD → PrngReg) :
    θ_run defs (onTc (τ := τ) (main (F := Ideal))) ⟨m, fun _ => 0, ρ⟩ fun r => ∀ c : Dev nD,
      r.2.mem ((c.tc : Thread nD τ).loc main_v69) = (fun i => (args m c).net.choice (i 0))
      ∧ r.2.mem ((c.tc : Thread nD τ).loc main_v40) = (fun i => (args m c).net.nm (i 0))
      ∧ r.2.mem ((c.tc : Thread nD τ).loc main_v70) = (fun i => (args m c).net.value (i 0))
      ∧ r.2.mem ((c.tc : Thread nD τ).loc main_v68) = (fun i => (args m c).net.plasticNext (i 0) (i 1) (i 2))
      ∧ r.2.mem ((c.tc : Thread nD τ).loc main_v71) = (fun i => (args m c).net.hidden (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun r h c => ?_) (Value.run m ρ)
  obtain ⟨h69, h40, h70, h68, h71, kept⟩ := h c
  refine ⟨h69.trans ?_, h40.trans ?_, h70.trans ?_, h68.trans ?_, h71.trans ?_, kept⟩
  · exact (val_main_v69_eq _ _ _ _ _ _ _ _ _).trans (at_coordinates (choice_at (args m c)))
  · exact (val_main_v40_eq m c).trans (at_coordinates (nm_at (args m c)))
  · exact (val_main_v70_eq _ _ _ _ _ _ _ _ _).trans (at_coordinates (value_at (args m c)))
  · exact (val_main_v68_eq m c).trans (at_coordinates (plastic_at (args m c)))
  · exact (val_main_v71_eq _ _ _ _ _ _ _).trans (at_coordinates (hid_at (args m c)))

end Cert.ReferenceIdeal.Meaning

end
-- ==== Proof.K.Equation.lean ====
module

public import proofs.«01_k».proof.Defs
public import proofs.«01_k».proof.Proof.K.Arrays
public import proofs.«01_k».proof.Proof.K.RefResults
public import Idealize.ShloMosaic.Lib.Claim

/-!
The equation: run on the same arguments, the kernel and the reference end with the same five results, both being the
model's values.
-/

@[expose] public section

set_option maxRecDepth 16384

noncomputable section

namespace Cert.Equation

open Idealize.ShloMosaic Idealize.SL.Sem

/-- The kernel and the reference agree on all five results. -/
theorem algebraic : Cert.algebraic_KernelIdeal_ReferenceIdeal := by
  intro m g m' g' _ hagree
  have same : ∀ c : Dev Cert.KernelIdeal.nD,
      (Cert.ReferenceIdeal.Meaning.args m' c).net = Cert.KernelIdeal.Meaning.net m c := by
    intro c
    obtain ⟨a0, a1, a2, a3, a4, a5, a6, a7, a8, a9, a10, a11, a12, a13, a14, a15, a16, a17⟩ := hagree c
    unfold Cert.ReferenceIdeal.Meaning.args
    rw [a0, a1, a2, a3, a4, a5, a6, a7, a8, a9, a10, a11, a12, a13, a14, a15, a16, a17]
    rfl
  refine ⟨_, _, _, _, _, Cert.KernelIdeal.Meaning.results m g, ?_⟩
  refine (θ_run Cert.ReferenceIdeal.defs _ _).mono (fun r h c => ?_) (Cert.ReferenceIdeal.Meaning.results m' g')
  have h := h c
  rw [same c] at h
  exact h

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.K.Equation
public import Idealize.ShloMosaic.Lib.Quiescent

@[expose] public section

noncomputable section

namespace Cert.Proof

open Idealize.ShloMosaic Idealize.SL.Sem

/-- The reference runs, leaves its arguments as they were, and has no semaphore to leave raised. -/
theorem reference_runs : Cert.quiescent_ReferenceIdeal := by
  intro m g _
  refine (θ_run Cert.ReferenceIdeal.defs _ _).mono (fun r h => ⟨fun c => ?_, sem_eq_zero_of_no_sems rfl _⟩)
    (Cert.ReferenceIdeal.Meaning.results m g)
  exact (h c).2.2.2.2.2

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_runs, trivial,
  Cert.Equation.algebraic⟩

end Cert.Proof

end
